-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_in_range [hPre_finite_and_in_range : Cert.Pre_finite_and_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_and_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite_and_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_in_range [hPre_finite_and_in_range : Cert.Pre_finite_and_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_and_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite_and_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_and_in_range [hKernelIdeal : Cert.KernelIdeal.Facts] [hPre_finite_and_in_range : Cert.Pre_finite_and_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_and_in_range [hReferenceIdeal : Cert.ReferenceIdeal.Facts] [hPre_finite_and_in_range : Cert.Pre_finite_and_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "inv_temp" .f32 0x41A00000#32 ((268435456 / 13421773 : ℝ) : EReal)

def algebraic_KernelIdeal_ReferenceIdeal_pre_finite_and_in_range [hKernelIdeal : Cert.KernelIdeal.Facts] [hReferenceIdeal : Cert.ReferenceIdeal.Facts] [hPre_finite_and_in_range : Cert.Pre_finite_and_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_and_in_range : Cert.Pre_finite_and_in_range.Facts),
    quiescent_Kernel (hKernel := hKernel)
    ∧ quiescent_KernelIdeal (hKernelIdeal := hKernelIdeal)
    ∧ quiescent_KernelIdeal_pre_finite_and_in_range (hKernelIdeal := hKernelIdeal) (hPre_finite_and_in_range := hPre_finite_and_in_range)
    ∧ quiescent_ReferenceIdeal (hReferenceIdeal := hReferenceIdeal)
    ∧ quiescent_ReferenceIdeal_pre_finite_and_in_range (hReferenceIdeal := hReferenceIdeal) (hPre_finite_and_in_range := hPre_finite_and_in_range)
    ∧ preserves_Kernel_KernelIdeal
    ∧ algebraic_KernelIdeal_ReferenceIdeal_pre_finite_and_in_range (hKernelIdeal := hKernelIdeal) (hReferenceIdeal := hReferenceIdeal) (hPre_finite_and_in_range := hPre_finite_and_in_range)
-- ==== Pre_finite_and_in_range.lean ====
abbrev S32x64 : Shape := ⟨2, ![32, 64]⟩
abbrev S32 : Shape := ⟨1, ![32]⟩
abbrev S1000000x64 : Shape := ⟨2, ![1000000, 64]⟩
abbrev S_ : Shape := ⟨0, ![]⟩

class Facts : Prop where
  bcast_S_S32x64 : S_.BroadcastsInDim S32x64 (![] : Fin 0 → Fin S32x64.rank)
  bcast_S_S32 : S_.BroadcastsInDim S32 (![] : Fin 0 → Fin S32.rank)
  bcast_S_S1000000x64 : S_.BroadcastsInDim S1000000x64 (![] : Fin 0 → Fin S1000000x64.rank)

variable [Facts]

def fn {F : FTy → Type} [FloatOps F] (main_arg0 : FVec F S32x64 .f32) (main_arg1 : IVec S32 32) (main_arg2 : FVec F S1000000x64 .f32) : IVec S32x64 1 × IVec S32 1 × IVec S1000000x64 1 :=
  let main_v0 : FVec F S32x64 .f32 := Host.absf main_arg0
  let main_cst : FVec F S_ .f32 := constant S_ .f32 0x7F800000#32
  let main_v1 : FVec F S32x64 .f32 := broadcastInDim S32x64 ![] bcast_S_S32x64 main_cst
  let main_v2 : IVec S32x64 1 := cmpf .olt main_v0 main_v1
  let main_c : IVec S_ 32 := constantI S_ 32 0#32
  let main_v3 : IVec S32 32 := broadcastInDim S32 ![] bcast_S_S32 main_c
  let main_v4 : IVec S32 1 := cmpi .sge main_arg1 main_v3
  let main_c_0 : IVec S_ 32 := constantI S_ 32 1000000#32
  let main_v5 : IVec S32 32 := broadcastInDim S32 ![] bcast_S_S32 main_c_0
  let main_v6 : IVec S32 1 := cmpi .slt main_arg1 main_v5
  let main_v7 : IVec S32 1 := andi main_v4 main_v6
  let main_v8 : FVec F S1000000x64 .f32 := Host.absf main_arg2
  let main_cst_1 : FVec F S_ .f32 := constant S_ .f32 0x7F800000#32
  let main_v9 : FVec F S1000000x64 .f32 := broadcastInDim S1000000x64 ![] bcast_S_S1000000x64 main_cst_1
  let main_v10 : IVec S1000000x64 1 := cmpf .olt main_v8 main_v9
  (main_v2, main_v7, main_v10)
-- ==== Kernel.lean ====
abbrev S32x64 : Shape := ⟨2, ![32, 64]⟩
abbrev S32 : Shape := ⟨1, ![32]⟩
abbrev S1000000x64 : Shape := ⟨2, ![1000000, 64]⟩
abbrev S32x1 : Shape := ⟨2, ![32, 1]⟩
abbrev S1x1 : Shape := ⟨2, ![1, 1]⟩
abbrev S_ : Shape := ⟨0, ![]⟩
abbrev S25000x64 : Shape := ⟨2, ![25000, 64]⟩
abbrev S32x25000 : Shape := ⟨2, ![32, 25000]⟩
abbrev S1x32x1 : Shape := ⟨3, ![1, 32, 1]⟩
abbrev S1 : Shape := ⟨1, ![1]⟩
abbrev S1x1x1 : Shape := ⟨3, ![1, 1, 1]⟩

abbrev nBuf : Space → Nat
  | .hbm => 6
  | .vmem => 7
  | .smem => 1
  | _ => 0

abbrev bufTy : (tb : Table) → Fin (tcTables nBuf tb) → BufTy
  | .hbm, ⟨0, _⟩ => ⟨S32x64, .f32⟩
  | .hbm, ⟨1, _⟩ => ⟨S32, .i32⟩
  | .hbm, ⟨2, _⟩ => ⟨S1000000x64, .f32⟩
  | .hbm, ⟨3, _⟩ => ⟨S32x1, .i32⟩
  | .hbm, ⟨4, _⟩ => ⟨S1x1, .f32⟩
  | .hbm, ⟨5, _⟩ => ⟨S_, .f32⟩
  | .local _ .vmem, ⟨0, _⟩ => ⟨S32x64, .f32⟩
  | .local _ .vmem, ⟨1, _⟩ => ⟨S32x1, .i32⟩
  | .local _ .vmem, ⟨2, _⟩ => ⟨S25000x64, .f32⟩
  | .local _ .vmem, ⟨3, _⟩ => ⟨S25000x64, .f32⟩
  | .local _ .vmem, ⟨4, _⟩ => ⟨S32x1, .f32⟩
  | .local _ .vmem, ⟨5, _⟩ => ⟨S32x1, .f32⟩
  | .local _ .vmem, ⟨6, _⟩ => ⟨S32x1, .f32⟩
  | .local _ .smem, ⟨0, _⟩ => ⟨S1x1, .f32⟩
  | _, _ => ⟨S32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_stg3_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4

abbrev nD : Nat := 1
abbrev τ : Topo := Topo.v7x

variable {F : FTy → Type} [FloatOps F]

abbrev grid0 : Pipeline.Grid := ⟨1, ![40], ![false]⟩

def k0_cond2 (i : grid0.Coords) : BitVec 1 :=
  let arg0 : BitVec 32 := BitVec.ofNat 32 (i 0).val
  let c39_i32 : BitVec 32 := 39#32
  let v45 : BitVec 1 := Scalar.cmpi .eq arg0 c39_i32
  let v46 : BitVec 32 := Scalar.extui v45
  let c0_i32_23 : BitVec 32 := 0#32
  let v47 : BitVec 1 := Scalar.cmpi .ne v46 c0_i32_23
  v47

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S32x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S32x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S25000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .smem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== KernelIdeal.lean ====
variable {F : FTy → Type} [FloatOps F] [Named F]
def κ : String → Option EReal := fun
  | "inv_temp" => some ((268435456 / 13421773 : ℝ) : EReal)
  | _ => none
-- ==== ReferenceIdeal.lean ====
abbrev S32x64 : Shape := ⟨2, ![32, 64]⟩
abbrev S32 : Shape := ⟨1, ![32]⟩
abbrev S1000000x64 : Shape := ⟨2, ![1000000, 64]⟩
abbrev S64x1000000 : Shape := ⟨2, ![64, 1000000]⟩
abbrev S32x1000000 : Shape := ⟨2, ![32, 1000000]⟩
abbrev S_ : Shape := ⟨0, ![]⟩
abbrev S32x1 : Shape := ⟨2, ![32, 1]⟩
abbrev S32x1x1 : Shape := ⟨3, ![32, 1, 1]⟩
abbrev S1 : Shape := ⟨1, ![1]⟩
abbrev S1x1x1 : Shape := ⟨3, ![1, 1, 1]⟩

abbrev nBuf : Space → Nat
  | .hbm => 52
  | .vmem => 0
  | .smem => 0
  | _ => 0

abbrev bufTy : (tb : Table) → Fin (tcTables nBuf tb) → BufTy
  | .hbm, ⟨0, _⟩ => ⟨S32x64, .f32⟩
  | .hbm, ⟨1, _⟩ => ⟨S32, .i32⟩
  | .hbm, ⟨2, _⟩ => ⟨S1000000x64, .f32⟩
  | .hbm, ⟨3, _⟩ => ⟨S64x1000000, .f32⟩
  | .hbm, ⟨4, _⟩ => ⟨S32x1000000, .f32⟩
  | .hbm, ⟨5, _⟩ => ⟨S_, .f32⟩
  | .hbm, ⟨6, _⟩ => ⟨S32x1000000, .f32⟩
  | .hbm, ⟨7, _⟩ => ⟨S32x1000000, .f32⟩
  | .hbm, ⟨8, _⟩ => ⟨S_, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S32x1, .f32⟩
  | .hbm, ⟨14, _⟩ => ⟨S32x1000000, .f32⟩
  | .hbm, ⟨15, _⟩ => ⟨S32x1000000, .f32⟩
  | .hbm, ⟨16, _⟩ => ⟨S32x1000000, .f32⟩
  | .hbm, ⟨17, _⟩ => ⟨S_, .f32⟩
  | .hbm, ⟨18, _⟩ => ⟨S32, .f32⟩
  | .hbm, ⟨19, _⟩ => ⟨S32x1, .f32⟩
  | .hbm, ⟨20, _⟩ => ⟨S32x1, .f32⟩
  | .hbm, ⟨21, _⟩ => ⟨S32x1000000, .f32⟩
  | .hbm, ⟨22, _⟩ => ⟨S32x1000000, .f32⟩
  | .hbm, ⟨23, _⟩ => ⟨S32x1, .i32⟩
  | .hbm, ⟨24, _⟩ => ⟨S_, .i32⟩
  | .hbm, ⟨25, _⟩ => ⟨S32x1, .i32⟩
  | .hbm, ⟨26, _⟩ => ⟨S32x1, .i1⟩
  | .hbm, ⟨27, _⟩ => ⟨S_, .i32⟩
  | .hbm, ⟨28, _⟩ => ⟨S32x1, .i32⟩
  | .hbm, ⟨29, _⟩ => ⟨S32x1, .i32⟩
  | .hbm, ⟨30, _⟩ => ⟨S32x1, .i32⟩
  | .hbm, ⟨31, _⟩ => ⟨S32x1x1, .i32⟩
  | .hbm, ⟨32, _⟩ => ⟨S1, .i32⟩
  | .hbm, ⟨33, _⟩ => ⟨S_, .i32⟩
  | .hbm, ⟨34, _⟩ => ⟨S32x1x1, .i32⟩
  | .hbm, ⟨35, _⟩ => ⟨S32x1x1, .i1⟩
  | .hbm, ⟨36, _⟩ => ⟨S1x1x1, .i32⟩
  | .hbm, ⟨37, _⟩ => ⟨S32x1x1, .i32⟩
  | .hbm, ⟨38, _⟩ => ⟨S32x1x1, .i1⟩
  | .hbm, ⟨39, _⟩ => ⟨S32x1x1, .i1⟩
  | .hbm, ⟨40, _⟩ => ⟨S_, .i1⟩
  | .hbm, ⟨41, _⟩ => ⟨S32x1, .i1⟩
  | .hbm, ⟨42, _⟩ => ⟨S32x1, .f32⟩
  | .hbm, ⟨43, _⟩ => ⟨S_, .f32⟩
  | .hbm, ⟨44, _⟩ => ⟨S32x1, .f32⟩
  | .hbm, ⟨45, _⟩ => ⟨S32x1, .f32⟩
  | .hbm, ⟨46, _⟩ => ⟨S32, .f32⟩
  | .hbm, ⟨47, _⟩ => ⟨S32, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | _, _ => ⟨S32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_call0_cst : Ref sig .tc := ⟨.hbm, 8, rfl⟩
abbrev main_call0_v0 : Ref sig .tc := ⟨.hbm, 9, rfl⟩
abbrev main_call0_cst_0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_cst_1 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_v4 : Ref sig .tc := ⟨.hbm, 22, rfl⟩
abbrev main_v5 : Ref sig .tc := ⟨.hbm, 23, rfl⟩
abbrev main_call1_c : Ref sig .tc := ⟨.hbm, 24, rfl⟩
abbrev main_call1_v0 : Ref sig .tc := ⟨.hbm, 25, rfl⟩
abbrev main_call1_v1 : Ref sig .tc := ⟨.hbm, 26, rfl⟩
abbrev main_call1_c_0 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_call1_v5 : Ref sig .tc := ⟨.hbm, 31, rfl⟩
abbrev main_call1_c_1 : Ref sig .tc := ⟨.hbm, 32, rfl⟩
abbrev main_call1_c_2 : Ref sig .tc := ⟨.hbm, 33, rfl⟩
abbrev main_call1_v6 : Ref sig .tc := ⟨.hbm, 34, rfl⟩
abbrev main_call1_v7 : Ref sig .tc := ⟨.hbm, 35, rfl⟩
abbrev main_call1_v8 : Ref sig .tc := ⟨.hbm, 36, rfl⟩
abbrev main_call1_v9 : Ref sig .tc := ⟨.hbm, 37, rfl⟩
abbrev main_call1_v10 : Ref sig .tc := ⟨.hbm, 38, rfl⟩
abbrev main_call1_v11 : Ref sig .tc := ⟨.hbm, 39, rfl⟩
abbrev main_call1_c_3 : Ref sig .tc := ⟨.hbm, 40, rfl⟩
abbrev main_call1_v12 : Ref sig .tc := ⟨.hbm, 41, rfl⟩
abbrev main_call1_v13 : Ref sig .tc := ⟨.hbm, 42, rfl⟩
abbrev main_call1_cst : Ref sig .tc := ⟨.hbm, 43, rfl⟩
abbrev main_call1_v14 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_cst_0 : Ref sig .tc := ⟨.hbm, 48, rfl⟩
abbrev main_v9 : Ref sig .tc := ⟨.hbm, 49, rfl⟩
abbrev main_cst_1 : Ref sig .tc := ⟨.hbm, 50, rfl⟩
abbrev main_v10 : Ref sig .tc := ⟨.hbm, 51, rfl⟩

abbrev nD : Nat := 1
abbrev τ : Topo := Topo.v7x

variable {F : FTy → Type} [FloatOps F]
-- ==== Proof.KernelRun.lean ====
/- What the kernel's launch leaves, for any float values: the three running columns (maximum, sum of exponentials,
   target logit) after each block of the memory bank, as a recursion over the blocks, and the one result word that the
   last block stores. -/
module

public import proofs.«01_k».proof.Defs
public import proofs.«01_k».proof.Proof.Gen.KernelIdeal.Frame
public import Idealize.ShloMosaic.Lib.Pipeline.ValueKit
public import Idealize.ShloMosaic.Lib.Pipeline.ReadBack
public import Idealize.ShloMosaic.Lib.StableHlo.Run
public import Idealize.ShloMosaic.Lib.Tactic

@[expose] public section

noncomputable section

open Idealize.ShloMosaic Idealize.ShloMosaic.TcCoe Idealize.SL.Sem
open Idealize.ShloMosaic.Pipeline (Dat)

namespace Cert.KernelIdeal.Run

open Cert.KernelIdeal Cert.KernelIdeal.Gen

variable {F : FTy → Type} [FloatOps F] [Named F]
variable (m : (ℓ : Loc nD τ sig) → Buf (Elt F) ℓ) (ρ : Dev nD → PrngReg)

/-- The three running columns: per row the maximum, the sum of exponentials relative to it, the target's logit. -/
abbrev Cols (F : FTy → Type) : Type := Vec F S32x1 .f32 × Vec F S32x1 .f32 × Vec F S32x1 .f32

/-- One block's update of the running columns, at grid coordinates `i`, from the rows `x`, the targets `t` and the
    block `f` of the memory bank. -/
def step (i : grid0.Coords) (x : Vec F S32x64 .f32) (t : Vec F S32x1 .i32) (f : Vec F S25000x64 .f32) (s : Cols F) : Cols F :=
  (k0_pay9 x f s.1, k0_pay1 (k0_pay10 x f s.1 s.2.1) (k0_pay11 x f s.1), k0_pay8 i x f t s.2.2)

/-- The columns before the first block: minus infinity, zero, zero. -/
def start : Cols F := (k0_pay4, k0_pay5, k0_pay6)

/-- The columns after block `n`. -/
def cols (c : Dev nD) : (n : ℕ) → n < cfg0.N → Cols F
  | 0, h => step (grid0.coords ⟨0, h⟩) (iblk m c 0 ⟨0, h⟩) (iblk m c 1 ⟨0, h⟩) (iblk m c 2 ⟨0, h⟩) start
  | n + 1, h => step (grid0.coords ⟨n + 1, h⟩) (iblk m c 0 ⟨n + 1, h⟩) (iblk m c 1 ⟨n + 1, h⟩) (iblk m c 2 ⟨n + 1, h⟩)
      (cols c n (Nat.lt_of_succ_lt h))

/-- The scratch after the first block is one update of the starting columns. -/
theorem scratch_first (c : Dev nD) (t : Fin cfg0.N) (h0 : t.val % 40 = 0) (h1 : ¬t.val % 40 = 39) :
    (outsAt0 m c t.val t.isLt).2
      = step (grid0.coords t) (iblk m c 0 t) (iblk m c 1 t) (iblk m c 2 t) start := by
  rw [outsAt0_A m c t h0 h1]
  unfold step start
  refine Prod.ext ?_ (Prod.ext ?_ ?_) <;> dsimp only <;> frame_out <;> simp only [k0_pay2, shapeCast_self]

/-- The scratch after a middle block is one update of what the block before left. -/
theorem scratch_middle (c : Dev nD) (t : Fin cfg0.N) (h0 : ¬t.val % 40 = 0) (h1 : ¬t.val % 40 = 39) :
    (outsAt0 m c t.val t.isLt).2
      = step (grid0.coords t) (iblk m c 0 t) (iblk m c 1 t) (iblk m c 2 t)
          (outsAt0 m c (t.val - 1) (Nat.lt_of_le_of_lt (Nat.sub_le _ _) t.isLt)).2 := by
  rw [outsAt0_B m c t h0 h1]
  generalize outsAt0 m c (t.val - 1) (Nat.lt_of_le_of_lt (Nat.sub_le _ _) t.isLt) = o
  unfold step
  refine Prod.ext ?_ (Prod.ext ?_ ?_) <;> dsimp only <;> frame_out <;> simp only [k0_pay2, shapeCast_self, read_unread_whole]

/-- The scratch after the last block is one update of what the block before left. -/
theorem scratch_last (c : Dev nD) (t : Fin cfg0.N) (h0 : ¬t.val % 40 = 0) (h1 : t.val % 40 = 39) :
    (outsAt0 m c t.val t.isLt).2
      = step (grid0.coords t) (iblk m c 0 t) (iblk m c 1 t) (iblk m c 2 t)
          (outsAt0 m c (t.val - 1) (Nat.lt_of_le_of_lt (Nat.sub_le _ _) t.isLt)).2 := by
  rw [outsAt0_C m c t h0 h1]
  generalize outsAt0 m c (t.val - 1) (Nat.lt_of_le_of_lt (Nat.sub_le _ _) t.isLt) = o
  unfold step
  refine Prod.ext ?_ (Prod.ext ?_ ?_) <;> dsimp only <;> frame_out <;> simp only [k0_pay2, shapeCast_self, read_unread_whole]

/-- The result word that the last block stores is the loss of the columns it leaves. -/
theorem word_last (c : Dev nD) (t : Fin cfg0.N) (h0 : ¬t.val % 40 = 0) (h1 : t.val % 40 = 39) :
    (outsAt0 m c t.val t.isLt).1
      = fun _ => k0_pay3 (outsAt0 m c t.val t.isLt).2.1 (outsAt0 m c t.val t.isLt).2.2.1
          (outsAt0 m c t.val t.isLt).2.2.2 := by
  rw [scratch_last m c t h0 h1, outsAt0_C m c t h0 h1]
  generalize outsAt0 m c (t.val - 1) (Nat.lt_of_le_of_lt (Nat.sub_le _ _) t.isLt) = o
  unfold step
  dsimp only
  frame_out
  simp only [k0_pay2, shapeCast_self, read_unread_whole]
  rfl

/-- The scratch after block `n` holds the columns after block `n`. -/
theorem scratch_eq (c : Dev nD) : ∀ (n : ℕ) (h : n < cfg0.N), (outsAt0 m c n h).2 = cols m c n h
  | 0, h => scratch_first m c ⟨0, h⟩ rfl (show ¬0 % 40 = 39 by decide)
  | n + 1, h => by
    have hN : cfg0.N = 40 := N_0
    have h0 : ¬(n + 1) % 40 = 0 := by omega
    have ih := scratch_eq c n (Nat.lt_of_succ_lt h)
    by_cases h1 : (n + 1) % 40 = 39
    · refine (scratch_last m c ⟨n + 1, h⟩ h0 h1).trans ?_
      show step _ _ _ _ (outsAt0 m c n _).2 = step _ _ _ _ (cols m c n _)
      rw [ih]
    · refine (scratch_middle m c ⟨n + 1, h⟩ h0 h1).trans ?_
      show step _ _ _ _ (outsAt0 m c n _).2 = step _ _ _ _ (cols m c n _)
      rw [ih]

/-- The grid has a block 39. -/
theorem last_lt : 39 < cfg0.N := by rw [show cfg0.N = 40 from N_0]; decide

/-- The last block, as a point of the grid. -/
def lastPt : Fin cfg0.N := ⟨39, last_lt⟩

/-- The loss: the word that the last block stores, of the columns after the last block. -/
def loss (c : Dev nD) : F .f32 :=
  k0_pay3 (cols m c 39 last_lt).1 (cols m c 39 last_lt).2.1 (cols m c 39 last_lt).2.2

/-- The launch's one-word result array ends holding the loss. -/
theorem array_eq (c : Dev nD) : (dats m 0 c).arrAt 3 cfg0.N = fun _ => loss m c := by
  refine (dats m 0 c).arrAt_eq_of_after_last 3 lastPt (by decide +kernel) _ fun j => ?_
  blk_simp
  rw [after0_3, word_last m c lastPt (show ¬39 % 40 = 0 by decide) (show 39 % 40 = 39 by decide), scratch_eq]
  rfl

/-- The kernel's run: the scalar result is the loss, and the arguments end as they began. -/
theorem run : θ_run defs (onTc (τ := τ) (main (F := F))) ⟨m, fun _ => 0, ρ⟩ fun r => ∀ c : Dev nD,
      r.2.mem ((c : Thread nD τ).loc main_v0) = (fun _ => loss m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) := by
  refine (θ_run defs _ _).mono (fun r h c => ⟨?_, h.2 c⟩) (θ_run_and (run_main m ρ) (unchanged m ρ))
  refine (h.1.rest_eq c main_v0 (by decide)).trans ?_
  unfold Pipeline.afterTail₀
  simp only [hostOps1, List.flatten_cons, List.flatten_nil, List.append_nil, List.cons_append, List.nil_append,
    StableHlo.after_cons, StableHlo.after_nil]
  rw [StableHlo.reshape_result]
  have hA := Pipeline.withArrays_arr spec0 launch0.win.arr_inj c (V0 m c) (fun w => (dats m 0 c).arrAt w cfg0.N) 3
  rw [array_eq m c] at hA
  funext i
  exact congrFun (congrArg (fun v => shapeCast S_ v shapeCasts_S1x1_S_) hA) i

end Cert.KernelIdeal.Run

end
-- ==== Proof.Softmax.lean ====
/- The mathematics of a row's log-sum-exp, among reals and extended reals: the one-pass accumulation block by block,
   what it ends at, and the same quantity taken with the row's maximum subtracted first. -/
module

public import Idealize.ShloMosaic.PureOps.Ideal
public import Idealize.ShloMosaic.PureOps.Ideal.Laws

@[expose] public section

noncomputable section

open Idealize.ShloMosaic

namespace Cert.Softmax

/-- A finite sum of reals, read among the extended reals, is the sum of the terms read there. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The maximum of finitely many reals and of `m`, where `m` is not plus infinity and there is at least one real, is
    a real. -/
theorem max_fold_real {ι : Type} (s : Finset ι) (hs : s.Nonempty) (f : ι → ℝ) (m : EReal) (hm : m ≠ ⊤) :
    ∃ M : ℝ, max m (s.fold max ⊥ fun k => (f k : EReal)) = M := by
  have hlt : max m (s.fold max ⊥ fun k => (f k : EReal)) < ⊤ :=
    max_lt (lt_top_iff_ne_top.mpr hm) ((Finset.fold_max_lt _).mpr ⟨bot_lt_top, fun x _ => EReal.coe_lt_top _⟩)
  have hgt : ⊥ < max m (s.fold max ⊥ fun k => (f k : EReal)) := by
    obtain ⟨k, hk⟩ := hs
    exact lt_max_of_lt_right ((Finset.lt_fold_max _).mpr (Or.inr ⟨k, hk, EReal.bot_lt_coe _⟩))
  exact ⟨_, (EReal.coe_toReal hlt.ne hgt.ne').symm⟩

/-- The accumulators hold the first `N` of a row's logits `z`, with `t` the target: rescaled to any maximum `M`, the sum
    is the sum of the exponentials relative to `M`; the target accumulator is the target's logit if it is among them,
    and zero if not; the maximum is a real once there is a logit. -/
structure Holds (z : ℕ → ℝ) (t N : ℕ) (m s tl : EReal) : Prop where
  /-- The running maximum is never plus infinity. -/
  ne_top : m ≠ ⊤
  /-- Nor minus infinity once there is a logit. -/
  ne_bot : 0 < N → m ≠ ⊥
  /-- The running sum, rescaled to `M`. -/
  sum : ∀ M : ℝ, s * Ideal.exp (m - M) = ((∑ j ∈ Finset.range N, Real.exp (z j - M) : ℝ) : EReal)
  /-- The target's logit. -/
  target : tl = ((∑ j ∈ Finset.range N, if j = t then z j else 0 : ℝ) : EReal)

/-- Before any block the accumulators are minus infinity, zero and zero. -/
theorem holds_start (z : ℕ → ℝ) (t : ℕ) : Holds z t 0 ⊥ 0 0 :=
  ⟨bot_ne_top, fun h => absurd h (lt_irrefl _), fun M => by simp, by simp⟩

/-- One block of `K` logits: the maximum is raised, the sum rescaled and increased, the target's logit picked up. -/
theorem Holds.step {z : ℕ → ℝ} {t N : ℕ} {m s tl : EReal} (h : Holds z t N m s tl) {K : ℕ} (hK : 0 < K) (m' : EReal)
    (hm' : m' = max m ((Finset.univ : Finset (Fin K)).fold max ⊥ fun j => (z (N + j.val) : EReal))) :
    Holds z t (N + K) m' (s * Ideal.exp (m - m') + ∑ j : Fin K, Ideal.exp ((z (N + j.val) : EReal) - m'))
      (tl + ∑ j : Fin K, if N + j.val = t then (z (N + j.val) : EReal) else 0) := by
  obtain ⟨M, hM⟩ := max_fold_real (Finset.univ : Finset (Fin K)) ⟨⟨0, hK⟩, Finset.mem_univ _⟩ (fun j => z (N + j.val)) m h.ne_top
  rw [hM] at hm'
  subst hm'
  have hs : s * Ideal.exp (m - M) + ∑ j : Fin K, Ideal.exp ((z (N + j.val) : EReal) - M)
      = ((∑ j ∈ Finset.range (N + K), Real.exp (z j - M) : ℝ) : EReal) := by
    rw [h.sum M, Finset.sum_range_add, EReal.coe_add, Finset.sum_range (n := K), coe_sum (Finset.univ : Finset (Fin K))]
    refine congrArg _ (Finset.sum_congr rfl fun j _ => ?_)
    rw [← EReal.coe_sub, Ideal.exp_coe]
  refine ⟨EReal.coe_ne_top _, fun _ => EReal.coe_ne_bot _, fun M' => ?_, ?_⟩
  · rw [hs, ← EReal.coe_sub, Ideal.exp_coe, ← EReal.coe_mul, Finset.sum_mul]
    refine congrArg _ (Finset.sum_congr rfl fun j _ => ?_)
    rw [← Real.exp_add]
    congr 1; ring
  · rw [h.target, Finset.sum_range_add, EReal.coe_add, Finset.sum_range (n := K), coe_sum (Finset.univ : Finset (Fin K))]
    refine congrArg _ (Finset.sum_congr rfl fun j _ => ?_)
    split <;> simp

/-- The logarithm of a sum of exponentials, taken relative to `M`, is `M` less than the log-sum-exp. -/
theorem log_sum_exp_sub (s : Finset ℕ) (hs : s.Nonempty) (z : ℕ → ℝ) (M : ℝ) :
    Real.log (∑ j ∈ s, Real.exp (z j - M)) = Real.log (∑ j ∈ s, Real.exp (z j)) - M := by
  have hpos : 0 < ∑ j ∈ s, Real.exp (z j) := Finset.sum_pos (fun j _ => Real.exp_pos _) hs
  have : ∑ j ∈ s, Real.exp (z j - M) = Real.exp (-M) * ∑ j ∈ s, Real.exp (z j) := by
    rw [Finset.mul_sum]
    exact Finset.sum_congr rfl fun j _ => by rw [← Real.exp_add]; congr 1; ring
  rw [this, Real.log_mul (Real.exp_pos _).ne' hpos.ne', Real.log_exp]
  ring

/-- The logarithm, among the extended reals, of a nonempty sum of exponentials is the real logarithm. -/
theorem log_coe_sum_exp (s : Finset ℕ) (hs : s.Nonempty) (z : ℕ → ℝ) (M : ℝ) :
    Ideal.log ((∑ j ∈ s, Real.exp (z j - M) : ℝ) : EReal) = ((Real.log (∑ j ∈ s, Real.exp (z j)) - M : ℝ) : EReal) := by
  have hpos : 0 < ∑ j ∈ s, Real.exp (z j - M) := Finset.sum_pos (fun j _ => Real.exp_pos _) hs
  rw [Ideal.log_coe, if_neg (not_le.mpr hpos), log_sum_exp_sub s hs z M]

/-- A row's negative log-likelihood: the log-sum-exp of its `N` logits less the target's logit. -/
def nll (z : ℕ → ℝ) (t N : ℕ) : ℝ := Real.log (∑ j ∈ Finset.range N, Real.exp (z j)) - z t

/-- What the accumulators give once they hold all `N` logits of the row, the target among them: its negative
    log-likelihood. -/
theorem Holds.nll {z : ℕ → ℝ} {t N : ℕ} {m s tl : EReal} (h : Holds z t N m s tl) (ht : t < N) :
    m + Ideal.log s - tl = (Softmax.nll z t N : EReal) := by
  have hN : 0 < N := lt_of_le_of_lt (Nat.zero_le _) ht
  have hs : (Finset.range N).Nonempty := ⟨0, Finset.mem_range.mpr hN⟩
  obtain ⟨M, rfl⟩ : ∃ M : ℝ, m = M := ⟨_, (EReal.coe_toReal h.ne_top (h.ne_bot hN)).symm⟩
  have hsum := h.sum M
  rw [← EReal.coe_sub, Ideal.exp_coe, sub_self, Real.exp_zero, EReal.coe_one, mul_one] at hsum
  have htl : ∑ j ∈ Finset.range N, (if j = t then z j else 0) = z t := by
    rw [Finset.sum_ite_eq' (Finset.range N) t z, if_pos (Finset.mem_range.mpr ht)]
  rw [hsum, log_coe_sum_exp _ hs, h.target, htl, ← EReal.coe_add, ← EReal.coe_sub]
  unfold Softmax.nll
  congr 1; ring

/-- The same quantity as minus the log-softmax at the target, the row's maximum (any real `M`) subtracted first. -/
theorem neg_log_softmax (z : ℕ → ℝ) (t N : ℕ) (hN : 0 < N) (M : ℝ) :
    -(((z t : EReal) - M) - Ideal.log (∑ j : Fin N, Ideal.exp ((z j.val : EReal) - M))) = (nll z t N : EReal) := by
  have hs : (Finset.range N).Nonempty := ⟨0, Finset.mem_range.mpr hN⟩
  have : ∑ j : Fin N, Ideal.exp ((z j.val : EReal) - M)
      = ((∑ j ∈ Finset.range N, Real.exp (z j - M) : ℝ) : EReal) := by
    rw [Finset.sum_range, coe_sum]
    exact Finset.sum_congr rfl fun j _ => by rw [← EReal.coe_sub, Ideal.exp_coe]
  rw [this, log_coe_sum_exp _ hs, ← EReal.coe_sub, ← EReal.coe_sub, ← EReal.coe_neg]
  unfold nll
  congr 1; ring

end Cert.Softmax

end
-- ==== Proof.KernelIdeal.lean ====
/- The kernel's updates at the extended reals, read at an index. -/
module

public import proofs.«01_k».proof.Proof.KernelRun
public import Idealize.ShloMosaic.PureOps.Ideal
public import Idealize.ShloMosaic.PureOps.Ideal.Laws
public import Idealize.ShloMosaic.Lib.Pointwise

@[expose] public section

noncomputable section

open Idealize.ShloMosaic Idealize.ShloMosaic.TcCoe Idealize.SL.Sem

namespace Cert.KernelIdeal.Pay

open Cert.KernelIdeal Cert.KernelIdeal.Gen

/-- The named constant, the exact inverse of the temperature's word. -/
abbrev invTemp : EReal := ((268435456 / 13421773 : ℝ) : EReal)

/-- The named constant is its exact value. -/
theorem named_invTemp : (Named.named (F := Ideal) κ "inv_temp" (φ := .f32) 0x41A00000#32 : EReal) = invTemp :=
  Idealize.ShloMosaic.named_eq κ "inv_temp" 0x41A00000#32

/-- The word of minus infinity. -/
theorem word_bot : Ideal.ofBits .f32 0xFF800000#32 = ⊥ := by
  simp [Ideal.ofBits, Ideal.ieee]

/-- The word of thirty-two. -/
theorem word_32 : Ideal.ofBits .f32 0x42000000#32 = ((32 : ℝ) : EReal) := by
  simp [Ideal.ofBits, Ideal.ieee, -EReal.coe_mul]
  norm_num

/-- A column's number is the target's exactly when their words are equal: no sum here reaches `2 ^ 32`. -/
theorem column_eq (n : ℕ) (hn : n < 40) (j : Fin 25000) (t : BitVec 32) (a b : EReal) :
    Scalar.select (IntOp.cmpi .eq (IntOp.addi (Scalar.muli (BitVec.ofNat 32 n) 25000#32) (BitVec.ofNat 32 j.val)) t) a b
      = if n * 25000 + j.val = t.toNat then a else b := by
  have hj := j.isLt
  have e : IntOp.addi (Scalar.muli (BitVec.ofNat 32 n) 25000#32) (BitVec.ofNat 32 j.val) = BitVec.ofNat 32 (n * 25000 + j.val) := by
    show BitVec.ofNat 32 n * 25000#32 + BitVec.ofNat 32 j.val = _
    rw [BitVec.ofNat_add, BitVec.ofNat_mul]
  rw [e]
  have hiff : BitVec.ofNat 32 (n * 25000 + j.val) = t ↔ n * 25000 + j.val = t.toNat := by
    rw [← BitVec.toNat_inj, BitVec.toNat_ofNat, Nat.mod_eq_of_lt (by omega)]
  by_cases h : BitVec.ofNat 32 (n * 25000 + j.val) = t
  · rw [if_pos (hiff.mp h), show IntOp.cmpi .eq (BitVec.ofNat 32 (n * 25000 + j.val)) t = 1#1 by simp [IntOp.cmpi, h]]
    rfl
  · rw [if_neg fun h' => h (hiff.mpr h'), show IntOp.cmpi .eq (BitVec.ofNat 32 (n * 25000 + j.val)) t = 0#1 from congrArg BitVec.ofBool (beq_false_of_ne h)]
    rfl

/-- A logit: the row's product with the memory bank's column, times the inverse temperature. -/
theorem logits_apply (x : Vec Ideal S32x64 .f32) (f : Vec Ideal S25000x64 .f32) (r : Fin 32) (j : Fin 25000) :
    k0_pay7 x f (ix2 r j) = (∑ k : Fin 64, x (ix2 r k) * f (ix2 j k)) * invTemp := by
  pointwise [k0_pay7]
  rw [named_invTemp]

/-- A column of row values read at a row. -/
theorem column_apply (v : S32.Idx → EReal) (r : Fin 32) : shapeCast S32x1 v shapeCasts_S32_S32x1 (ix2 r 0) = v (ix1 r) := by
  pointwise

/-- The index of row `r` at column `j`. -/
theorem lift_row (r : Fin 32) (j : Fin 25000) : reduces_S32x25000_S32.lift (ix1 r) j = ix2 r j := by
  funext a
  match a with
  | ⟨0, _⟩ => rfl
  | ⟨1, _⟩ => rfl

/-- A row's maximum over the block's columns, from minus infinity. -/
theorem row_max (v : FVec Ideal S32x25000 .f32) (r : Fin 32) :
    multiReduction .maximumf [1] S32 v 0xFF800000#32 reduces_S32x25000_S32 (.inl rfl) rfl (ix1 r)
      = (Finset.univ : Finset (Fin 25000)).fold max ⊥ fun j => v (ix2 r j) := by
  refine (Ideal.multiReduction_maximumf_single v 0xFF800000#32 reduces_S32x25000_S32 (.inl rfl) rfl (ix1 r)).trans ?_
  rw [Ideal.ofBits_def, word_bot]
  exact congrArg (fun g => Finset.fold max ⊥ g Finset.univ) (funext fun j => congrArg v (lift_row r j))

/-- The new maximum: the old one and the block's logits. -/
theorem max_apply (x : Vec Ideal S32x64 .f32) (f : Vec Ideal S25000x64 .f32) (m : Vec Ideal S32x1 .f32) (r : Fin 32) :
    k0_pay9 x f m (ix2 r 0)
      = max (m (ix2 r 0)) ((Finset.univ : Finset (Fin 25000)).fold max ⊥ fun j => k0_pay7 x f (ix2 r j)) := by
  unfold k0_pay9
  exact congrArg (max (m (ix2 r 0))) ((column_apply _ r).trans (row_max (k0_pay7 x f) r))

/-- The old sum, rescaled to the new maximum. -/
theorem scaled_apply (x : Vec Ideal S32x64 .f32) (f : Vec Ideal S25000x64 .f32) (m s : Vec Ideal S32x1 .f32) (r : Fin 32) :
    k0_pay10 x f m s (ix2 r 0) = s (ix2 r 0) * Ideal.exp (m (ix2 r 0) - k0_pay9 x f m (ix2 r 0)) := by
  pointwise [k0_pay10]

/-- A logit less the new maximum. -/
theorem shifted_apply (x : Vec Ideal S32x64 .f32) (f : Vec Ideal S25000x64 .f32) (m : Vec Ideal S32x1 .f32) (r : Fin 32)
    (j : Fin 25000) : k0_pay11 x f m (ix2 r j) = k0_pay7 x f (ix2 r j) - k0_pay9 x f m (ix2 r 0) := by
  pointwise [k0_pay11]

/-- The new sum: the rescaled one and the block's exponentials. -/
theorem sum_apply (s : Vec Ideal S32x1 .f32) (d : FVec Ideal S32x25000 .f32) (r : Fin 32) :
    k0_pay1 (F := Ideal) s d (ix2 r 0) = s (ix2 r 0) + ∑ j : Fin 25000, Ideal.exp (d (ix2 r j)) := by
  pointwise [k0_pay1]

/-- The new target logit: the old one and the block's logit at the target's column, if the column is in the block. -/
theorem target_apply (i : grid0.Coords) (x : Vec Ideal S32x64 .f32) (f : Vec Ideal S25000x64 .f32) (t : Vec Ideal S32x1 .i32)
    (tl : Vec Ideal S32x1 .f32) (r : Fin 32) :
    k0_pay8 i x f t tl (ix2 r 0) = tl (ix2 r 0)
      + ∑ j : Fin 25000, if (i 0).val * 25000 + j.val = (t (ix2 r 0)).toNat then k0_pay7 x f (ix2 r j) else 0 := by
  pointwise [k0_pay8]
  exact congrArg _ (Finset.sum_congr rfl fun j _ => column_eq (i 0).val (i 0).isLt j _ _ _)

/-- The loss: the mean over the rows of maximum plus logarithm of the sum less the target's logit. -/
theorem loss_apply (m s tl : Vec Ideal S32x1 .f32) :
    k0_pay3 m s tl
      = Ideal.div (∑ r : Fin 32, (m (ix2 r 0) + Ideal.log (s (ix2 r 0)) - tl (ix2 r 0))) ((32 : ℝ) : EReal) := by
  pointwise [k0_pay3]
  rw [word_32]
  simp only [Fin.sum_univ_one]

end Cert.KernelIdeal.Pay

end
-- ==== Proof.KernelBlocks.lean ====
/- The blocks the launch reads, at an index: the rows and the targets whole, the memory bank 25000 rows a block. -/
module

public import proofs.«01_k».proof.Proof.KernelRun
public import Idealize.ShloMosaic.Lib.Pointwise

@[expose] public section

noncomputable section

open Idealize.ShloMosaic Idealize.ShloMosaic.TcCoe Idealize.SL.Sem

namespace Cert.KernelIdeal.Blocks

open Cert.KernelIdeal Cert.KernelIdeal.Gen

variable {F : FTy → Type} [FloatOps F] [Named F]
variable (m : (ℓ : Loc nD τ sig) → Buf (Elt F) ℓ)

/-- The grid's coordinate at a point is the point's number. -/
theorem coord_eq (t : Fin cfg0.N) : (grid0.coords t 0).val = t.val := by
  have ht : t.val < 40 := Nat.lt_of_lt_of_eq t.isLt N_0
  refine (Pipeline.Grid.coords_val t 0 (by decide) rfl : (grid0.coords t 0).val = t.val / 1 % 40).trans ?_
  omega

/-- The windows' block numbers at a point: the rows and the targets stay at block zero, the memory bank moves on. -/
theorem index_eq (t : Fin cfg0.N) : win0_0.index t = ![0, 0] ∧ win0_1.index t = ![0, 0] ∧ win0_2.index t = ![t.val, 0] :=
  (by decide +kernel : ∀ t : Fin cfg0.N, win0_0.index t = ![0, 0] ∧ win0_1.index t = ![0, 0] ∧ win0_2.index t = ![t.val, 0]) t

/-- A point's block of rows is all the rows. -/
theorem rows_apply (c : Dev nD) (t : Fin cfg0.N) (r : Fin 32) (k : Fin 64) :
    iblk m c 0 t (ix2 r k) = m ((c : Thread nD τ).loc main_arg0) (ix2 r k) := by
  rw [← V_main_arg0 m c]
  blk_ext [iblk, V, index_eq t]

/-- The targets as a column hold the targets. -/
theorem V_targets (c : Dev nD) (r : Fin 32) :
    V m c main_call0_v0 (ix2 r 0) = m ((c : Thread nD τ).loc main_arg1) (ix1 r) := by
  unfold V V0
  simp only [hostOps0, List.flatten_cons, List.flatten_nil, List.append_nil, StableHlo.after_cons, StableHlo.after_nil]
  rw [StableHlo.reshape_result]
  pointwise

/-- A point's block of targets is all the targets. -/
theorem targets_apply (c : Dev nD) (t : Fin cfg0.N) (r : Fin 32) :
    iblk m c 1 t (ix2 r 0) = m ((c : Thread nD τ).loc main_arg1) (ix1 r) := by
  rw [← V_targets m c r]
  blk_ext [iblk, V, index_eq t]

/-- Row `j` of a point's block of the memory bank is row `25000 t + j` of the bank. -/
theorem bank_apply (c : Dev nD) (t : Fin cfg0.N) (j : Fin 25000) (k : Fin 64) (n : Fin 1000000) (hn : n.val = 25000 * t.val + j.val) :
    iblk m c 2 t (ix2 j k) = m ((c : Thread nD τ).loc main_arg2) (ix2 n k) := by
  rw [← V_main_arg2 m c]
  blk_ext [iblk, V, index_eq t]

end Cert.KernelIdeal.Blocks

end
-- ==== Proof.KernelValue.lean ====
/- The kernel's loss, for real rows and a real memory bank and targets in range: the mean of the rows' negative
   log-likelihoods. -/
module

public import proofs.«01_k».proof.Proof.Softmax
public import proofs.«01_k».proof.Proof.KernelIdeal
public import proofs.«01_k».proof.Proof.KernelBlocks

@[expose] public section

noncomputable section

open Idealize.ShloMosaic Idealize.ShloMosaic.TcCoe Idealize.SL.Sem

namespace Cert.Logits

/-- Row `r`'s logit at column `n` of the real memory bank `B`: the product of the real rows `X` and the bank over the
    64 features, times the exact inverse temperature (zero past the bank's end). -/
def logit (X : Fin 32 → Fin 64 → ℝ) (B : Fin 1000000 → Fin 64 → ℝ) (r : Fin 32) (n : ℕ) : ℝ :=
  if h : n < 1000000 then (∑ k : Fin 64, X r k * B ⟨n, h⟩ k) * (268435456 / 13421773) else 0

/-- A logit read among the extended reals. -/
theorem logit_coe (X : Fin 32 → Fin 64 → ℝ) (B : Fin 1000000 → Fin 64 → ℝ) (r : Fin 32) (n : Fin 1000000) :
    (logit X B r n.val : EReal)
      = (∑ k : Fin 64, (X r k : EReal) * (B n k : EReal)) * ((268435456 / 13421773 : ℝ) : EReal) := by
  unfold logit
  rw [dif_pos n.isLt, EReal.coe_mul, Softmax.coe_sum]
  exact congrArg (· * _) (Finset.sum_congr rfl fun k _ => EReal.coe_mul _ _)

/-- The loss: the mean over the rows of their negative log-likelihoods. -/
def loss (X : Fin 32 → Fin 64 → ℝ) (B : Fin 1000000 → Fin 64 → ℝ) (t : Fin 32 → ℕ) : EReal :=
  Ideal.div (∑ r : Fin 32, (Softmax.nll (logit X B r) (t r) 1000000 : EReal)) ((32 : ℝ) : EReal)

end Cert.Logits

namespace Cert.KernelIdeal.Value

open Cert.KernelIdeal Cert.KernelIdeal.Gen Cert.KernelIdeal.Run Cert.KernelIdeal.Pay Cert.KernelIdeal.Blocks Cert.Logits

variable (m : (ℓ : Loc nD τ sig) → Buf (Elt Ideal) ℓ) (c : Dev nD)
variable (X : Fin 32 → Fin 64 → ℝ) (B : Fin 1000000 → Fin 64 → ℝ)

/-- Row `r`'s target on device `c`. -/
def target (r : Fin 32) : ℕ := BitVec.toNat (m ((c : Thread nD τ).loc main_arg1) (ix1 r) : BitVec 32)

/-- The block's logit at `(r, j)` of point `t` is the row's logit at column `25000 t + j`. -/
theorem logits_block (hX : ∀ r k, m ((c : Thread nD τ).loc main_arg0) (ix2 r k) = (X r k : EReal))
    (hB : ∀ n k, m ((c : Thread nD τ).loc main_arg2) (ix2 n k) = (B n k : EReal)) (t : Fin cfg0.N) (r : Fin 32) (j : Fin 25000) :
    k0_pay7 (iblk m c 0 t) (iblk m c 2 t) (ix2 r j) = (logit X B r (25000 * t.val + j.val) : EReal) := by
  have ht : t.val < 40 := Nat.lt_of_lt_of_eq t.isLt N_0
  have hj := j.isLt
  have hn : 25000 * t.val + j.val < 1000000 := by omega
  rw [logits_apply]
  refine Eq.trans ?_ (logit_coe X B r ⟨25000 * t.val + j.val, hn⟩).symm
  refine congrArg (· * _) (Finset.sum_congr rfl fun k _ => ?_)
  rw [rows_apply m c t r k, bank_apply m c t j k ⟨_, hn⟩ rfl, hX, hB]

/-- One block's update keeps what the columns hold: with the first `25000 t` logits before, the first `25000 (t + 1)`
    after. -/
theorem step_holds (hX : ∀ r k, m ((c : Thread nD τ).loc main_arg0) (ix2 r k) = (X r k : EReal))
    (hB : ∀ n k, m ((c : Thread nD τ).loc main_arg2) (ix2 n k) = (B n k : EReal)) (t : Fin cfg0.N) (s : Cols Ideal) (r : Fin 32)
    (h : Softmax.Holds (logit X B r) (target m c r) (25000 * t.val) (s.1 (ix2 r 0)) (s.2.1 (ix2 r 0)) (s.2.2 (ix2 r 0))) :
    Softmax.Holds (logit X B r) (target m c r) (25000 * t.val + 25000)
      ((step (grid0.coords t) (iblk m c 0 t) (iblk m c 1 t) (iblk m c 2 t) s).1 (ix2 r 0))
      ((step (grid0.coords t) (iblk m c 0 t) (iblk m c 1 t) (iblk m c 2 t) s).2.1 (ix2 r 0))
      ((step (grid0.coords t) (iblk m c 0 t) (iblk m c 1 t) (iblk m c 2 t) s).2.2 (ix2 r 0)) := by
  have hz := logits_block m c X B hX hB t r
  unfold step
  dsimp only
  rw [sum_apply, scaled_apply, target_apply, coord_eq, targets_apply m c t r, Nat.mul_comm t.val 25000]
  simp only [shifted_apply, hz]
  refine h.step (by decide) _ ?_
  rw [max_apply]
  simp only [hz]

/-- The starting columns at a row: minus infinity, zero, zero. -/
theorem start_apply (r : Fin 32) : (start : Cols Ideal).1 (ix2 r 0) = ⊥ ∧ (start : Cols Ideal).2.1 (ix2 r 0) = 0
    ∧ (start : Cols Ideal).2.2 (ix2 r 0) = 0 := by
  unfold start
  refine ⟨?_, ?_, ?_⟩
  · pointwise [k0_pay4]
    exact word_bot
  · pointwise [k0_pay5]
  · pointwise [k0_pay6]

/-- After block `n` the columns hold the first `25000 (n + 1)` logits of every row. -/
theorem cols_hold (hX : ∀ r k, m ((c : Thread nD τ).loc main_arg0) (ix2 r k) = (X r k : EReal))
    (hB : ∀ n k, m ((c : Thread nD τ).loc main_arg2) (ix2 n k) = (B n k : EReal)) (r : Fin 32) : ∀ (n : ℕ) (h : n < cfg0.N),
    Softmax.Holds (logit X B r) (target m c r) (25000 * n + 25000)
      ((cols m c n h).1 (ix2 r 0)) ((cols m c n h).2.1 (ix2 r 0)) ((cols m c n h).2.2 (ix2 r 0))
  | 0, h => by
    refine step_holds m c X B hX hB ⟨0, h⟩ start r ?_
    rw [show 25000 * (⟨0, h⟩ : Fin cfg0.N).val = 0 from Nat.mul_zero _, (start_apply r).1, (start_apply r).2.1, (start_apply r).2.2]
    exact Softmax.holds_start _ _
  | n + 1, h => step_holds m c X B hX hB ⟨n + 1, h⟩ _ r (cols_hold hX hB r n (Nat.lt_of_succ_lt h))

/-- The kernel's loss is the mean of the rows' negative log-likelihoods. -/
theorem loss_eq (hX : ∀ r k, m ((c : Thread nD τ).loc main_arg0) (ix2 r k) = (X r k : EReal))
    (hB : ∀ n k, m ((c : Thread nD τ).loc main_arg2) (ix2 n k) = (B n k : EReal)) (ht : ∀ r, target m c r < 1000000) :
    Run.loss m c = Logits.loss X B (target m c) := by
  have hN : 25000 * 39 + 25000 = 1000000 := by norm_num
  have h := fun r => cols_hold m c X B hX hB r 39 last_lt
  rw [hN] at h
  unfold Run.loss Logits.loss
  rw [loss_apply]
  rw [Finset.sum_congr rfl fun r _ => (h r).nll (ht r)]

end Cert.KernelIdeal.Value

end
-- ==== Proof.ReferenceTerm.lean ====
/- The reference's result as named stages, at the extended reals. -/
module

public import proofs.«01_k».proof.Proof.Gen.ReferenceIdeal.Run
public import Idealize.ShloMosaic.PureOps.Ideal
public import Idealize.ShloMosaic.PureOps.Ideal.Laws
public import Idealize.ShloMosaic.Lib.Pointwise

@[expose] public section

noncomputable section

open Idealize.ShloMosaic Idealize.ShloMosaic.TcCoe Idealize.SL.Sem

namespace Cert.ReferenceIdeal.Term

open Cert.ReferenceIdeal Cert.ReferenceIdeal.Facts₀

/-- The logits: the product with the transposed memory bank, divided by the temperature. -/
def logits (x : FVec Ideal S32x64 .f32) (f : FVec Ideal S1000000x64 .f32) : FVec Ideal S32x1000000 .f32 :=
  Host.divf (Host.dotGeneral dot_S32x64_S64x1000000_S32x1000000_1_0_0_1_n_n none x
      (transpose S64x1000000 [1, 0] f transposes_S1000000x64_S64x1000000_1_0))
    (broadcastInDim S32x1000000 ![] bcast_S_S32x1000000 (constant S_ .f32 0x3D4CCCCD#32))

/-- Each row's maximum. -/
def rowMax (z : FVec Ideal S32x1000000 .f32) : FVec Ideal S32 .f32 :=
  maximumf (broadcastInDim S32 ![] bcast_S_S32 (constant S_ .f32 0xFF800000#32))
    (Host.reduce FloatOps.maximumf z (constant S_ .f32 0xFF800000#32) reducesTo_S32x1000000_S32_d1 h_S_)

/-- The logits less their row's maximum. -/
def shifted (z : FVec Ideal S32x1000000 .f32) : FVec Ideal S32x1000000 .f32 :=
  subf z (broadcastInDim S32x1000000 ![0, 1] bcast_S32x1_S32x1000000_0_1 (broadcastInDim S32x1 ![0] bcast_S32_S32x1_0 (rowMax z)))

/-- The log-softmax of each row. -/
def logSoftmax (z : FVec Ideal S32x1000000 .f32) : FVec Ideal S32x1000000 .f32 :=
  subf (shifted z) (broadcastInDim S32x1000000 ![0, 1] bcast_S32x1_S32x1000000_0_1 (Host.log (broadcastInDim S32x1 ![0] bcast_S32_S32x1_0
    (Host.reduceAdd (Host.exp (shifted z)) (constant S_ .f32 0x00000000#32) reducesTo_S32x1000000_S32_d1 h_S_))))

/-- The targets as gather indices: a negative one counted from the end. -/
def indices (t : IVec S32 32) : IVec S32x1x1 32 :=
  shapeCast _ (select (cmpi .slt (broadcastInDim S32x1 ![0] bcast_S32_S32x1_0 t) (broadcastInDim S32x1 ![] bcast_S_S32x1 (constantI S_ 32 0#32)))
      (addi (broadcastInDim S32x1 ![0] bcast_S32_S32x1_0 t) (broadcastInDim S32x1 ![] bcast_S_S32x1 (constantI S_ 32 1000000#32)))
      (broadcastInDim S32x1 ![0] bcast_S32_S32x1_0 t)) shapeCasts_S32x1_S32x1x1

/-- Whether each index is in range. -/
def inRange (i : IVec S32x1x1 32) : IVec S32x1 1 :=
  Host.reduce IntOp.andi (andi (cmpi .sge i (broadcastInDim S32x1x1 ![] bcast_S_S32x1x1 (constantI S_ 32 0#32)))
      (cmpi .sle i (broadcastInDim S32x1x1 ![0, 1, 2] bcast_S1x1x1_S32x1x1_0_1_2
        (broadcastInDim S1x1x1 ![2] bcast_S1_S1x1x1_2 (constantI S1 32 999999#32)))))
    (constantI S_ 1 1#1) reducesTo_S32x1x1_S32x1_d2 h_S_

/-- The log-softmax at each row's index. -/
def taken (p : FVec Ideal S32x1000000 .f32) (i : IVec S32x1x1 32) : FVec Ideal S32x1 .f32 :=
  select (inRange i) (Host.gather gather_S32x1000000_S32x1x1_S32x1_n_1_0_0_1_2_11 p i)
    (broadcastInDim S32x1 ![] bcast_S_S32x1 (constant S_ .f32 0x7FC00000#32))

/-- The mean over the rows of minus a column. -/
def meanNeg (v : FVec Ideal S32x1 .f32) : FVec Ideal S_ .f32 :=
  Host.divf (Host.reduceAdd (Host.negf (shapeCast _ v shapeCasts_S32x1_S32)) (constant S_ .f32 0x00000000#32) reducesTo_S32_S_d0 h_S_)
    (constant S_ .f32 0x42000000#32)

/-- The reference's result is these stages, composed. -/
theorem result_eq (m : (ℓ : Loc nD τ sig) → Buf (Elt Ideal) ℓ) (c : Dev nD) :
    Value.res_out0 m c = meanNeg (taken (logSoftmax (logits (m ((c : Thread nD τ).loc main_arg0)) (m ((c : Thread nD τ).loc main_arg2))))
      (indices (m ((c : Thread nD τ).loc main_arg1)))) := rfl

end Cert.ReferenceIdeal.Term

end
-- ==== Proof.ReferenceSoftmax.lean ====
/- The reference's logits and their log-softmax, read at an index. -/
module

public import proofs.«01_k».proof.Proof.ReferenceTerm
public import proofs.«01_k».proof.Proof.Softmax
public import Idealize.ShloMosaic.PureOps.Ideal
public import Idealize.ShloMosaic.PureOps.Ideal.Laws
public import Idealize.ShloMosaic.Lib.Pointwise
public import Idealize.ShloMosaic.Lib.ValueIdx

@[expose] public section

noncomputable section

open Idealize.ShloMosaic Idealize.ShloMosaic.TcCoe Idealize.SL.Sem

namespace Cert.ReferenceIdeal.Term

open Cert.ReferenceIdeal Cert.ReferenceIdeal.Facts₀

/-- A logit: the row's product with the memory bank's column, divided by the temperature. -/
theorem logits_apply (x : FVec Ideal S32x64 .f32) (f : FVec Ideal S1000000x64 .f32) (r : Fin 32) (n : Fin 1000000) :
    logits x f (ix2 r n) = Ideal.div (∑ k : Fin 64, x (ix2 r k) * f (ix2 n k)) (Ideal.ofBits .f32 0x3D4CCCCD#32) := by
  pointwise [logits]

/-- The word of minus infinity. -/
theorem word_bot : Ideal.ofBits .f32 0xFF800000#32 = ⊥ := by
  simp [Ideal.ofBits, Ideal.ieee]

section Rows
variable {R N : ℕ}

/-- The index of row `r` at column `n`, of any matrix. -/
theorem lift_row (h : (⟨2, ![R, N]⟩ : Shape).Reduces [1] ⟨1, ![R]⟩) (r : Fin R) (n : Fin N) : h.lift (ix1 r) n = ix2 r n := by
  funext a
  match a with
  | ⟨0, _⟩ => rfl
  | ⟨1, _⟩ => rfl

/-- The host's maximum over a row of any matrix, from minus infinity. -/
theorem host_row_max (h : (⟨2, ![R, N]⟩ : Shape).ReducesTo [1] ⟨1, ![R]⟩) (z : FVec Ideal ⟨2, ![R, N]⟩ .f32) (r : Fin R) :
    Host.reduce FloatOps.maximumf z (constant S_ .f32 0xFF800000#32) h h_S_ (ix1 r)
      = (Finset.univ : Finset (Fin N)).fold max ⊥ fun n => z (ix2 r n) := by
  have h' : (⟨2, ![R, N]⟩ : Shape).Reduces [1] ⟨1, ![R]⟩ := ⟨rfl, Nat.one_pos, h.2⟩
  refine (Host.reduce_eq_fold_single FloatOps.maximumf z (constant S_ .f32 0xFF800000#32) h h' h_S_ (ix1 r)).trans ?_
  exact congrArg₂ (fun b g => Finset.fold max b g (Finset.univ : Finset (Fin N))) word_bot
    (funext fun n => congrArg z (lift_row h' r n))

/-- The host's sum over a row of any matrix, from zero. -/
theorem host_row_sum (h : (⟨2, ![R, N]⟩ : Shape).ReducesTo [1] ⟨1, ![R]⟩) (e : FVec Ideal ⟨2, ![R, N]⟩ .f32) (r : Fin R) :
    Host.reduceAdd e (constant S_ .f32 0x00000000#32) h h_S_ (ix1 r) = ∑ n : Fin N, e (ix2 r n) := by
  have h' : (⟨2, ![R, N]⟩ : Shape).Reduces [1] ⟨1, ![R]⟩ := ⟨rfl, Nat.one_pos, h.2⟩
  refine (Ideal.hostReduceAdd_single h h' e _ (ix1 r)).trans ?_
  rw [show constant (F := Ideal) S_ .f32 0x00000000#32 (Shape.Idx.first h_S_) = 0 from Ideal.ofBits_zero_f32, zero_add]
  exact Finset.sum_congr rfl fun n _ => congrArg e (lift_row h' r n)

end Rows

/-- Minus infinity at every row. -/
theorem splat_bot (r : Fin 32) :
    broadcastInDim S32 ![] bcast_S_S32 (constant (F := Ideal) S_ .f32 0xFF800000#32) (ix1 r) = (⊥ : EReal) := by
  pointwise
  exact word_bot

/-- A row's maximum: over its columns, from minus infinity. -/
theorem rowMax_apply (z : FVec Ideal S32x1000000 .f32) (r : Fin 32) :
    rowMax z (ix1 r) = max ⊥ ((Finset.univ : Finset (Fin 1000000)).fold max ⊥ fun n => z (ix2 r n)) := by
  unfold rowMax
  rw [ValueIdx.maximumf_apply, host_row_max reducesTo_S32x1000000_S32_d1 z r, splat_bot]

/-- A logit less its row's maximum. -/
theorem shifted_apply (z : FVec Ideal S32x1000000 .f32) (r : Fin 32) (n : Fin 1000000) :
    shifted z (ix2 r n) = z (ix2 r n) - rowMax z (ix1 r) := by
  pointwise [shifted]

/-- Row values laid along the columns, through the logarithm, read at an index. -/
theorem log_column (v : FVec Ideal S32 .f32) (r : Fin 32) (n : Fin 1000000) :
    broadcastInDim S32x1000000 ![0, 1] bcast_S32x1_S32x1000000_0_1 (Host.log (broadcastInDim S32x1 ![0] bcast_S32_S32x1_0 v)) (ix2 r n)
      = Ideal.log (v (ix1 r)) := by
  pointwise

/-- The exponential of a vector at an index. -/
theorem exp_apply {s : Shape} (v : FVec Ideal s .f32) (i : s.Idx) : Host.exp v i = Ideal.exp (v i) := rfl

/-- The log-softmax: the shifted logit less the logarithm of the row's sum of exponentials. -/
theorem logSoftmax_apply (z : FVec Ideal S32x1000000 .f32) (r : Fin 32) (n : Fin 1000000) :
    logSoftmax z (ix2 r n) = shifted z (ix2 r n) - Ideal.log (∑ j : Fin 1000000, Ideal.exp (shifted z (ix2 r j))) := by
  unfold logSoftmax
  rw [ValueIdx.subf_apply, log_column, host_row_sum reducesTo_S32x1000000_S32_d1]
  exact congrArg (fun e => shifted z (ix2 r n) - Ideal.log e) (Finset.sum_congr rfl fun j _ => exp_apply (shifted z) (ix2 r j))

/-- The log-softmax of a row of real logits `Z`, negated at column `n`: the negative log-likelihood of `n`. -/
theorem neg_logSoftmax (z : FVec Ideal S32x1000000 .f32) (r : Fin 32) (Z : ℕ → ℝ) (hz : ∀ n : Fin 1000000, z (ix2 r n) = (Z n.val : EReal))
    (n : Fin 1000000) : -logSoftmax z (ix2 r n) = (Softmax.nll Z n.val 1000000 : EReal) := by
  obtain ⟨M, hM⟩ := Softmax.max_fold_real (Finset.univ : Finset (Fin 1000000)) ⟨n, Finset.mem_univ _⟩ (fun j => Z j.val) ⊥ bot_ne_top
  have hmax : rowMax z (ix1 r) = (M : EReal) := by
    rw [rowMax_apply, ← hM]
    simp only [hz]
  rw [logSoftmax_apply]
  simp only [shifted_apply, hz, hmax]
  exact Softmax.neg_log_softmax Z n.val 1000000 (lt_of_le_of_lt (Nat.zero_le _) n.isLt) M

end Cert.ReferenceIdeal.Term

end
-- ==== Proof.ReferenceTake.lean ====
/- The reference's gather of the log-softmax at the targets, read at an index. -/
module

public import proofs.«01_k».proof.Proof.ReferenceTerm
public import Idealize.ShloMosaic.PureOps.Ideal
public import Idealize.ShloMosaic.PureOps.Ideal.Laws
public import Idealize.ShloMosaic.Lib.Pointwise
public import Idealize.ShloMosaic.Lib.ValueIdx

@[expose] public section

noncomputable section

open Idealize.ShloMosaic Idealize.ShloMosaic.TcCoe Idealize.SL.Sem

namespace Cert.ReferenceIdeal.Term

open Cert.ReferenceIdeal Cert.ReferenceIdeal.Facts₀

/-- A column number's word, read signed, is the number. -/
theorem toInt_of_lt {t : BitVec 32} (h : t.toNat < 1000000) : t.toInt = (t.toNat : ℤ) :=
  BitVec.toInt_eq_toNat_of_lt (by omega)

/-- A column number is not negative. -/
theorem not_slt_zero {t : BitVec 32} (h : t.toNat < 1000000) : IntOp.cmpi .slt t 0#32 = 0#1 := by
  have : t.slt 0#32 = false := by
    rw [BitVec.slt, toInt_of_lt h]
    exact decide_eq_false (by simp)
  show BitVec.ofBool (t.slt 0#32) = 0#1
  rw [this]
  rfl

/-- It is zero or more. -/
theorem sge_zero {t : BitVec 32} (h : t.toNat < 1000000) : IntOp.cmpi .sge t 0#32 = 1#1 := by
  have : (0#32).sle t = true := by
    rw [BitVec.sle, toInt_of_lt h]
    exact decide_eq_true (by simp)
  show BitVec.ofBool ((0#32).sle t) = 1#1
  rw [this]
  rfl

/-- It is at most the last column's. -/
theorem sle_last {t : BitVec 32} (h : t.toNat < 1000000) : IntOp.cmpi .sle t 999999#32 = 1#1 := by
  have : t.sle 999999#32 = true := by
    rw [BitVec.sle, toInt_of_lt h, toInt_of_lt (t := 999999#32) (by decide)]
    exact decide_eq_true (by
      rw [show (999999#32 : BitVec 32).toNat = 999999 from rfl]
      omega)
  show BitVec.ofBool (t.sle 999999#32) = 1#1
  rw [this]
  rfl

/-- A target within the bank's columns is its own gather index. -/
theorem indices_apply (t : IVec S32 32) (r : Fin 32) (h : (t (ix1 r)).toNat < 1000000) : indices t (ix3 r 0 0) = t (ix1 r) := by
  pointwise [indices]
  rw [not_slt_zero h]
  rfl

/-- The axis of size one is the one that the range test's reduction drops. -/
theorem reduces_entry : S32x1x1.Reduces [2] S32x1 := ⟨rfl, Nat.zero_lt_two, reducesTo_S32x1x1_S32x1_d2.2⟩

/-- The index of row `r`'s single entry. -/
theorem lift_entry (r : Fin 32) (k : Fin 1) : reduces_entry.lift (ix2 r 0) k = ix3 r 0 0 := by
  obtain rfl : k = 0 := Subsingleton.elim _ _
  funext a
  match a with
  | ⟨0, _⟩ => rfl
  | ⟨1, _⟩ => rfl
  | ⟨2, _⟩ => rfl

/-- The range test of an entry, before the reduction. -/
theorem test_apply (i : IVec S32x1x1 32) (r : Fin 32) (h : (i (ix3 r 0 0)).toNat < 1000000) :
    andi (cmpi .sge i (broadcastInDim S32x1x1 ![] bcast_S_S32x1x1 (constantI S_ 32 0#32)))
      (cmpi .sle i (broadcastInDim S32x1x1 ![0, 1, 2] bcast_S1x1x1_S32x1x1_0_1_2
        (broadcastInDim S1x1x1 ![2] bcast_S1_S1x1x1_2 (constantI S1 32 999999#32)))) (ix3 r 0 0) = 1#1 := by
  pointwise
  rw [sge_zero h, sle_last h]
  rfl

/-- An index within the bank's columns is found in range. -/
theorem inRange_apply (i : IVec S32x1x1 32) (r : Fin 32) (h : (i (ix3 r 0 0)).toNat < 1000000) : inRange i (ix2 r 0) = 1#1 := by
  unfold inRange
  refine (Host.reduce_eq_fold_single IntOp.andi _ (constantI S_ 1 1#1) reducesTo_S32x1x1_S32x1_d2 reduces_entry h_S_ (ix2 r 0)).trans ?_
  refine (congrArg (fun g => Finset.fold IntOp.andi 1#1 g (Finset.univ : Finset (Fin 1)))
    (funext fun k => (congrArg _ (lift_entry r k)).trans (test_apply i r h))).trans ?_
  rfl

/-- The gather at row `r`: the operand at the row's index. -/
theorem gather_apply (p : FVec Ideal S32x1000000 .f32) (i : IVec S32x1x1 32) (r : Fin 32) (n : Fin 1000000)
    (h : (i (ix3 r 0 0)).toNat = n.val) : Host.gather gather_S32x1000000_S32x1x1_S32x1_n_1_0_0_1_2_11 p i (ix2 r 0) = p (ix2 r n) := by
  have hn := n.isLt
  have hi : (i (ix3 r 0 0)).toInt.toNat = n.val := by rw [toInt_of_lt (h ▸ hn), Int.toNat_natCast, h]
  have h0 : GatherDims.start gather_S32x1000000_S32x1x1_S32x1_n_1_0_0_1_2_11 (ix2 r 0) i (0 : Fin 2)
      + GatherDims.batchCoord gather_S32x1000000_S32x1x1_S32x1_n_1_0_0_1_2_11 (ix2 r 0) (0 : Fin 2)
      + GatherDims.offCoord gather_S32x1000000_S32x1x1_S32x1_n_1_0_0_1_2_11 (ix2 r 0) (0 : Fin 2) = r.val := by
    have hb : (0 : Fin 2) ∈ gather_S32x1000000_S32x1x1_S32x1_n_1_0_0_1_2_11.operandBatchingDims := List.mem_singleton.mpr rfl
    rw [GatherDims.start_batching _ _ _ _ hb, GatherDims.offCoord_eq_zero _ _ _ fun h => ((GatherDims.mem_sKept _ _).mp h).2 hb,
      Nat.zero_add, Nat.add_zero]
    unfold GatherDims.batchCoord
    rw [dif_pos hb]
    rfl
  have h1 : GatherDims.start gather_S32x1000000_S32x1x1_S32x1_n_1_0_0_1_2_11 (ix2 r 0) i (1 : Fin 2)
      + GatherDims.batchCoord gather_S32x1000000_S32x1x1_S32x1_n_1_0_0_1_2_11 (ix2 r 0) (1 : Fin 2)
      + GatherDims.offCoord gather_S32x1000000_S32x1x1_S32x1_n_1_0_0_1_2_11 (ix2 r 0) (1 : Fin 2) = n.val := by
    have hs : (1 : Fin 2) ∈ gather_S32x1000000_S32x1x1_S32x1_n_1_0_0_1_2_11.startIndexMap := List.mem_singleton.mpr rfl
    have hc : (1 : Fin 2) ∈ gather_S32x1000000_S32x1x1_S32x1_n_1_0_0_1_2_11.collapsedSliceDims := List.mem_singleton.mpr rfl
    have hb : (1 : Fin 2) ∉ gather_S32x1000000_S32x1x1_S32x1_n_1_0_0_1_2_11.operandBatchingDims :=
      fun h => absurd (congrArg Fin.val (List.mem_singleton.mp h)) Nat.one_ne_zero
    rw [GatherDims.batchCoord_eq_zero _ _ _ hb, GatherDims.offCoord_eq_zero _ _ _ fun h => ((GatherDims.mem_sKept _ _).mp h).1 hc,
      Nat.add_zero]
    have hx : gather_S32x1000000_S32x1x1_S32x1_n_1_0_0_1_2_11.siIdx (ix2 r 0)
        ⟨List.idxOf (1 : Fin 2) gather_S32x1000000_S32x1x1_S32x1_n_1_0_0_1_2_11.startIndexMap, List.idxOf_lt_length_iff.2 hs⟩ = ix3 r 0 0 := by
      funext b
      refine Fin.ext ?_
      match b with
      | ⟨0, _⟩ => rfl
      | ⟨1, _⟩ => rfl
      | ⟨2, _⟩ => rfl
    unfold GatherDims.start
    rw [dif_pos hs, hx, hi]
    show min n.val 999999 = n.val
    omega
  refine congrArg p (funext fun a => Fin.ext ?_)
  match a with
  | ⟨0, _⟩ => exact h0
  | ⟨1, _⟩ => exact h1

/-- The entry taken at row `r`, for an index within the bank's columns. -/
theorem taken_apply (p : FVec Ideal S32x1000000 .f32) (i : IVec S32x1x1 32) (r : Fin 32) (n : Fin 1000000)
    (h : (i (ix3 r 0 0)).toNat = n.val) : taken p i (ix2 r 0) = p (ix2 r n) := by
  unfold taken
  rw [ValueIdx.select_apply, inRange_apply i r (h ▸ n.isLt), gather_apply p i r n h]
  rfl

/-- The mean over the rows of minus the column. -/
theorem meanNeg_apply (v : FVec Ideal S32x1 .f32) :
    meanNeg v = fun _ => Ideal.div (∑ r : Fin 32, -v (ix2 r 0)) (Ideal.ofBits .f32 0x42000000#32) := by
  funext i
  pointwise [meanNeg]

end Cert.ReferenceIdeal.Term

end
-- ==== Proof.ReferenceValue.lean ====
/- The reference's result on real rows and a real memory bank: the mean negative log-likelihood of the targets. -/
module

public import proofs.«01_k».proof.Proof.ReferenceSoftmax
public import proofs.«01_k».proof.Proof.ReferenceTake
public import proofs.«01_k».proof.Proof.KernelValue

@[expose] public section

noncomputable section

open Idealize.ShloMosaic Idealize.ShloMosaic.TcCoe Idealize.SL.Sem

namespace Cert.ReferenceIdeal.Term

open Cert.ReferenceIdeal Cert.ReferenceIdeal.Facts₀

/-- The temperature's word is `13421773 / 2^28`, the `f32` nearest a twentieth. -/
theorem word_temp : Ideal.ofBits .f32 0x3D4CCCCD#32 = ((13421773 / 268435456 : ℝ) : EReal) := by
  simp [Ideal.ofBits, Ideal.ieee, -EReal.coe_mul]
  norm_num

/-- The batch's size. -/
theorem word_32 : Ideal.ofBits .f32 0x42000000#32 = ((32 : ℝ) : EReal) := by
  simp [Ideal.ofBits, Ideal.ieee, -EReal.coe_mul]
  norm_num

/-- On real rows and a real bank, the reference's logits are `Logits.logit`: dividing by the temperature is multiplying by its
    inverse. -/
theorem logits_real (x : FVec Ideal S32x64 .f32) (f : FVec Ideal S1000000x64 .f32) (X : Fin 32 → Fin 64 → ℝ) (B : Fin 1000000 → Fin 64 → ℝ)
    (hX : ∀ r k, x (ix2 r k) = (X r k : EReal)) (hB : ∀ n k, f (ix2 n k) = (B n k : EReal)) (r : Fin 32) (n : Fin 1000000) :
    logits x f (ix2 r n) = (Logits.logit X B r n.val : EReal) := by
  rw [logits_apply, word_temp, Ideal.div_coe (by norm_num), Logits.logit_coe]
  rw [show (1 / (13421773 / 268435456) : ℝ) = 268435456 / 13421773 by norm_num]
  congr 1
  exact Finset.sum_congr rfl fun k _ => by rw [hX, hB]

/-- The reference's result is `Logits.loss` of the rows, the bank and the targets. -/
theorem value_eq (m : (ℓ : Loc nD τ sig) → Buf (Elt Ideal) ℓ) (c : Dev nD) (X : Fin 32 → Fin 64 → ℝ) (B : Fin 1000000 → Fin 64 → ℝ)
    (t : Fin 32 → ℕ)
    (hX : ∀ r k, (m ((c : Thread nD τ).loc main_arg0) : FVec Ideal S32x64 .f32) (ix2 r k) = (X r k : EReal))
    (hB : ∀ n k, (m ((c : Thread nD τ).loc main_arg2) : FVec Ideal S1000000x64 .f32) (ix2 n k) = (B n k : EReal))
    (ht : ∀ r, BitVec.toNat ((m ((c : Thread nD τ).loc main_arg1) : IVec S32 32) (ix1 r)) = t r) (hlt : ∀ r, t r < 1000000) :
    Value.res_out0 (F := Ideal) m c = fun _ => Logits.loss X B t := by
  rw [result_eq, meanNeg_apply, word_32]
  funext _
  unfold Logits.loss
  congr 1
  refine Finset.sum_congr rfl fun r _ => ?_
  have h : BitVec.toNat ((m ((c : Thread nD τ).loc main_arg1) : IVec S32 32) (ix1 r)) < 1000000 := (ht r).trans_lt (hlt r)
  rw [taken_apply _ _ r ⟨t r, hlt r⟩ (by rw [indices_apply _ r h]; exact ht r)]
  exact neg_logSoftmax _ r (Logits.logit X B r) (logits_real _ _ X B hX hB r) ⟨t r, hlt r⟩

end Cert.ReferenceIdeal.Term

end
-- ==== Proof.Precondition.lean ====
/- What the precondition gives: rows and memory bank of real numbers, targets within the bank. -/
module

public import proofs.«01_k».proof.Pre_finite_and_in_range
public import Idealize.ShloMosaic.PureOps.Ideal
public import Idealize.ShloMosaic.PureOps.Ideal.Laws
public import Idealize.ShloMosaic.Lib.Pointwise
public import Idealize.ShloMosaic.Lib.ValueIdx

@[expose] public section

noncomputable section

open Idealize.ShloMosaic

namespace Cert.Pre_finite_and_in_range.Read

open Cert.Pre_finite_and_in_range

variable [Facts]

/-- The bound's word is infinity. -/
theorem word_top : Ideal.ofBits .f32 0x7F800000#32 = (⊤ : EReal) := by
  simp [Ideal.ofBits, Ideal.ieee]

/-- An absolute value below infinity is a real number's. -/
theorem real_of_test {x : EReal} (h : Ideal.cmp .olt (max x (-x)) ⊤ = 1#1) : ((x.toReal : ℝ) : EReal) = x := by
  have hlt : max x (-x) < ⊤ := by
    by_contra hn
    have h0 : Ideal.cmp .olt (max x (-x)) ⊤ = 0#1 := by
      show BitVec.ofBool (decide (max x (-x) < ⊤)) = 0#1
      rw [decide_eq_false hn]
      rfl
    exact absurd (h0.symm.trans h) (by decide)
  refine EReal.coe_toReal ?_ ?_
  · rintro rfl
    exact absurd hlt (by simp)
  · rintro rfl
    exact absurd hlt (by simp)

/-- A word that is zero or more and below a million, read signed, is such a number read unsigned. -/
theorem lt_of_tests {t : BitVec 32} (h : IntOp.andi (IntOp.cmpi .sge t 0#32) (IntOp.cmpi .slt t 1000000#32) = 1#1) :
    t.toNat < 1000000 := by
  have h' : BitVec.ofBool ((0#32).sle t) &&& BitVec.ofBool (t.slt 1000000#32) = 1#1 := h
  have h0 : (0#32).sle t = true := by
    cases hb : (0#32).sle t
    · rw [hb] at h'
      exact absurd h' (by cases t.slt 1000000#32 <;> decide)
    · rfl
  have h1 : t.slt 1000000#32 = true := by
    cases hb : t.slt 1000000#32
    · rw [hb] at h'
      exact absurd h' (by cases (0#32).sle t <;> decide)
    · rfl
  have g0 : (0 : ℤ) ≤ t.toInt := by
    simpa [BitVec.sle] using h0
  have g1 : t.toInt < 1000000 := by
    have := of_decide_eq_true h1
    rwa [show (1000000#32 : BitVec 32).toInt = 1000000 from by decide] at this
  have hl := t.isLt
  rw [BitVec.toInt_eq_toNat_cond] at g0 g1
  split at g0 <;> omega

variable {x : FVec Ideal S32x64 .f32} {t : IVec S32 32} {f : FVec Ideal S1000000x64 .f32}

/-- The rows are real. -/
theorem rows_real (h : (fn x t f).1 = fun _ => 1#1) (r : Fin 32) (k : Fin 64) :
    (((x (ix2 r k)).toReal : ℝ) : EReal) = x (ix2 r k) := by
  refine real_of_test ?_
  rw [← word_top]
  exact congrFun h (ix2 r k)

/-- The targets are column numbers. -/
theorem targets_lt (h : (fn x t f).2.1 = fun _ => 1#1) (r : Fin 32) : (t (ix1 r)).toNat < 1000000 :=
  lt_of_tests (congrFun h (ix1 r))

/-- The memory bank is real. -/
theorem bank_real (h : (fn x t f).2.2 = fun _ => 1#1) (n : Fin 1000000) (k : Fin 64) :
    (((f (ix2 n k)).toReal : ℝ) : EReal) = f (ix2 n k) := by
  refine real_of_test ?_
  rw [← word_top]
  exact congrFun h (ix2 n k)

end Cert.Pre_finite_and_in_range.Read

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite_and_in_range
public import Idealize.ShloMosaic.Adequacy
public import Idealize.ShloMosaic.Init
public import proofs.«01_k».proof.Proof.KernelRun
public import proofs.«01_k».proof.Proof.KernelValue
public import proofs.«01_k».proof.Proof.ReferenceValue
public import proofs.«01_k».proof.Proof.Precondition
public import Idealize.ShloMosaic.Lib.Quiescent

@[expose] public section

noncomputable section

namespace Cert.Proof

open Idealize.ShloMosaic Idealize.SL.Sem

/-- The kernel as printed runs, leaves its arguments alone and sets every semaphore back to zero. -/
theorem frame_kernel : Cert.quiescent_Kernel := fun m g _ => Cert.Kernel.Gen.frame m g

/-- So does the kernel over the extended reals. -/
theorem frame_kernelIdeal : Cert.quiescent_KernelIdeal := fun m g _ => Cert.KernelIdeal.Gen.frame m g

/-- And the reference, which has no semaphore. -/
theorem frame_referenceIdeal : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- The kernel over the extended reals is the printed kernel with one constant named: `20.0`, the inverse of the temperature,
    for the inverse of the temperature's `f32` word. -/
theorem preserves : Cert.preserves_Kernel_KernelIdeal :=
  IdealRules.named_const.statement Cert.KernelIdeal.κ "inv_temp" .f32 0x41A00000#32 ((268435456 / 13421773 : ℝ) : EReal) rfl

/-- The kernel and the reference end at the same loss, from the same real rows, real memory bank and in-range targets. -/
theorem algebraic : Cert.algebraic_KernelIdeal_ReferenceIdeal_pre_finite_and_in_range := by
  intro m g m' g' hpre hagree
  refine ⟨fun c _ => Cert.KernelIdeal.Run.loss m c, ?_, ?_⟩
  · exact Cert.KernelIdeal.Run.run (F := Ideal) m g
  · refine (θ_run Cert.ReferenceIdeal.defs _ _).mono (fun r h c => ⟨(h c).1.trans ?_, (h c).2⟩)
      (Cert.ReferenceIdeal.Value.run (F := Ideal) m' g')
    obtain ⟨hx, ht, hf⟩ := hpre c
    obtain ⟨e0, e1, e2⟩ := hagree c
    have hX := fun r k => (Cert.Pre_finite_and_in_range.Read.rows_real hx r k).symm
    have hB := fun n k => (Cert.Pre_finite_and_in_range.Read.bank_real hf n k).symm
    have hT := fun r => Cert.Pre_finite_and_in_range.Read.targets_lt ht r
    refine (Cert.ReferenceIdeal.Term.value_eq m' c _ _ (Cert.KernelIdeal.Value.target m c)
      (fun r k => (congrFun e0 _).trans (hX r k)) (fun n k => (congrFun e2 _).trans (hB n k))
      (fun r => congrArg BitVec.toNat (congrFun e1 _)) hT).trans ?_
    exact funext fun _ => (Cert.KernelIdeal.Value.loss_eq m c _ _ hX hB hT).symm

theorem claim : Cert.Claim :=
  ⟨Cert.Kernel.Gen.facts, Cert.KernelIdeal.Gen.facts, Cert.ReferenceIdeal.Gen.facts, Cert.Pre_finite_and_in_range.Gen.facts,
    frame_kernel, frame_kernelIdeal, fun m g _ => frame_kernelIdeal m g trivial, frame_referenceIdeal,
    fun m g _ => frame_referenceIdeal m g trivial, preserves, algebraic⟩

end Cert.Proof

end
